-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8x256x256x32 : Shape := ⟨5, ![2, 8, 256, 256, 32]⟩
abbrev S2x256x256 : Shape := ⟨3, ![2, 256, 256]⟩
abbrev S8x32x128 : Shape := ⟨3, ![8, 32, 128]⟩
abbrev S8x128 : Shape := ⟨2, ![8, 128]⟩
abbrev S8x128x128 : Shape := ⟨3, ![8, 128, 128]⟩
abbrev S8x128x1 : Shape := ⟨3, ![8, 128, 1]⟩
abbrev S8x1 : Shape := ⟨2, ![8, 1]⟩
abbrev S8x16 : Shape := ⟨2, ![8, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S2x8x256x256x32 : S_.BroadcastsInDim S2x8x256x256x32 (![] : Fin 0 → Fin S2x8x256x256x32.rank)
  reducesTo_S2x8x256x256x32_S_d0_1_2_3_4 : S2x8x256x256x32.ReducesTo [0, 1, 2, 3, 4] S_
  h_S_ : 0 < S_.numel
  bcast_S_S8x32x128 : S_.BroadcastsInDim S8x32x128 (![] : Fin 0 → Fin S8x32x128.rank)
  reducesTo_S8x32x128_S_d0_1_2 : S8x32x128.ReducesTo [0, 1, 2] S_
  bcast_S_S8x128 : S_.BroadcastsInDim S8x128 (![] : Fin 0 → Fin S8x128.rank)
  reducesTo_S8x128_S_d0_1 : S8x128.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128x1 : S_.BroadcastsInDim S8x128x1 (![] : Fin 0 → Fin S8x128x1.rank)
  reducesTo_S8x128x1_S_d0_1_2 : S8x128x1.ReducesTo [0, 1, 2] S_
  bcast_S_S8x16 : S_.BroadcastsInDim S8x16 (![] : Fin 0 → Fin S8x16.rank)
  reducesTo_S8x16_S_d0_1 : S8x16.ReducesTo [0, 1] S_

variable [Facts]

def fn_part1 {F : FTy → Type} [FloatOps F] (main_arg5 : FVec F S8x128 .f32) (main_arg6 : FVec F S8x128x1 .f32) (main_arg8 : FVec F S8x16 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg5
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S8x128x1 .f32 := Host.absf main_arg6
  let main_cst_8 : FVec F S_ .f32 := constant S_ .f32 0x7F800000#32
  let main_v25 : FVec F S8x128x1 .f32 := broadcastInDim S8x128x1 ![] bcast_S_S8x128x1 main_cst_8
  let main_v26 : IVec S8x128x1 1 := cmpf .olt main_v24 main_v25
  let main_c_9 : IVec S_ 1 := constantI S_ 1 1#1
  let main_v27 : IVec S_ 1 := (fun x v => Host.reduce IntOp.andi x v reducesTo_S8x128x1_S_d0_1_2 h_S_) main_v26 main_c_9
  let main_v28 : IVec S_ 1 := andi main_v23 main_v27
  let main_v29 : FVec F S8x16 .f32 := Host.absf main_arg8
  let main_cst_10 : FVec F S_ .f32 := constant S_ .f32 0x7F800000#32
  let main_v30 : FVec F S8x16 .f32 := broadcastInDim S8x16 ![] bcast_S_S8x16 main_cst_10
  let main_v31 : IVec S8x16 1 := cmpf .olt main_v29 main_v30
  let main_c_11 : IVec S_ 1 := constantI S_ 1 1#1
  let main_v32 : IVec S_ 1 := (fun x v => Host.reduce IntOp.andi x v reducesTo_S8x16_S_d0_1 h_S_) main_v31 main_c_11
  let main_v33 : IVec S_ 1 := andi main_v28 main_v32
  main_v33

def fn {F : FTy → Type} [FloatOps F] (main_arg0 : FVec F S2x8x256x256x32 .f32) (main_arg1 : IVec S2x256x256 1) (main_arg2 : FVec F S8x32x128 .f32) (main_arg3 : FVec F S8x128 .f32) (main_arg4 : FVec F S8x128x128 .f32) (main_arg5 : FVec F S8x128 .f32) (main_arg6 : FVec F S8x128x1 .f32) (main_arg7 : FVec F S8x1 .f32) (main_arg8 : FVec F S8x16 .f32) (main_arg9 : FVec F S16 .f32) (main_arg10 : FVec F S16x8 .f32) (main_arg11 : FVec F S8 .f32) : IVec S_ 1 :=
  let main_v0 : FVec F S2x8x256x256x32 .f32 := Host.absf main_arg0
  let main_cst : FVec F S_ .f32 := constant S_ .f32 0x7F800000#32
  let main_v1 : FVec F S2x8x256x256x32 .f32 := broadcastInDim S2x8x256x256x32 ![] bcast_S_S2x8x256x256x32 main_cst
  let main_v2 : IVec S2x8x256x256x32 1 := cmpf .olt main_v0 main_v1
  let main_c : IVec S_ 1 := constantI S_ 1 1#1
  let main_v3 : IVec S_ 1 := (fun x v => Host.reduce IntOp.andi x v reducesTo_S2x8x256x256x32_S_d0_1_2_3_4 h_S_) main_v2 main_c
  let main_v4 : FVec F S8x32x128 .f32 := Host.absf main_arg2
  let main_cst_0 : FVec F S_ .f32 := constant S_ .f32 0x7F800000#32
  let main_v5 : FVec F S8x32x128 .f32 := broadcastInDim S8x32x128 ![] bcast_S_S8x32x128 main_cst_0
  let main_v6 : IVec S8x32x128 1 := cmpf .olt main_v4 main_v5
  let main_c_1 : IVec S_ 1 := constantI S_ 1 1#1
  let main_v7 : IVec S_ 1 := (fun x v => Host.reduce IntOp.andi x v reducesTo_S8x32x128_S_d0_1_2 h_S_) main_v6 main_c_1
  let main_v8 : IVec S_ 1 := andi main_v3 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x128x128 .f32 := Host.absf main_arg4
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg5 main_arg6 main_arg8 main_v13 main_v16
-- ==== Kernel.lean ====
abbrev S2x8x256x256x32 : Shape := ⟨5, ![2, 8, 256, 256, 32]⟩
abbrev S2x256x256 : Shape := ⟨3, ![2, 256, 256]⟩
abbrev S8x32x128 : Shape := ⟨3, ![8, 32, 128]⟩
abbrev S8x128 : Shape := ⟨2, ![8, 128]⟩
abbrev S8x128x128 : Shape := ⟨3, ![8, 128, 128]⟩
abbrev S8x128x1 : Shape := ⟨3, ![8, 128, 1]⟩
abbrev S8x1 : Shape := ⟨2, ![8, 1]⟩
abbrev S8x16 : Shape := ⟨2, ![8, 16]⟩
abbrev S16 : Shape := ⟨1, ![16]⟩
abbrev S16x8 : Shape := ⟨2, ![16, 8]⟩
abbrev S8 : Shape := ⟨1, ![8]⟩
abbrev S2x8x65536x32 : Shape := ⟨4, ![2, 8, 65536, 32]⟩
abbrev S2x65536x1 : Shape := ⟨3, ![2, 65536, 1]⟩
abbrev S1x16 : Shape := ⟨2, ![1, 16]⟩
abbrev S1x8 : Shape := ⟨2, ![1, 8]⟩
abbrev S2x65536x8 : Shape := ⟨3, ![2, 65536, 8]⟩
abbrev S1x8x2048x32 : Shape := ⟨4, ![1, 8, 2048, 32]⟩
abbrev S1x2048x1 : Shape := ⟨3, ![1, 2048, 1]⟩
abbrev S1x2048x8 : Shape := ⟨3, ![1, 2048, 8]⟩
abbrev S2048x16 : Shape := ⟨2, ![2048, 16]⟩
abbrev S1x1x2048x32 : Shape := ⟨4, ![1, 1, 2048, 32]⟩
abbrev S2048x32 : Shape := ⟨2, ![2048, 32]⟩
abbrev S1x32x128 : Shape := ⟨3, ![1, 32, 128]⟩
abbrev S32x128 : Shape := ⟨2, ![32, 128]⟩
abbrev S2048x128 : Shape := ⟨2, ![2048, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128x16 : Shape := ⟨2, ![128, 16]⟩
abbrev S2048x8 : Shape := ⟨2, ![2048, 8]⟩
abbrev S2048x1 : Shape := ⟨2, ![2048, 1]⟩
abbrev S2x256x256x8 : Shape := ⟨4, ![2, 256, 256, 8]⟩

abbrev nBuf : Space → Nat
  | .hbm => 19
  | .vmem => 16
  | .smem => 0
  | _ => 0

abbrev bufTy : (tb : Table) → Fin (tcTables nBuf tb) → BufTy
  | .hbm, ⟨0, _⟩ => ⟨S2x8x256x256x32, .f32⟩
  | .hbm, ⟨1, _⟩ => ⟨S2x256x256, .i1⟩
  | .hbm, ⟨2, _⟩ => ⟨S8x32x128, .f32⟩
  | .hbm, ⟨3, _⟩ => ⟨S8x128, .f32⟩
  | .hbm, ⟨4, _⟩ => ⟨S8x128x128, .f32⟩
  | .hbm, ⟨5, _⟩ => ⟨S8x128, .f32⟩
  | .hbm, ⟨6, _⟩ => ⟨S8x128x1, .f32⟩
  | .hbm, ⟨7, _⟩ => ⟨S8x1, .f32⟩
  | .hbm, ⟨8, _⟩ => ⟨S8x16, .f32⟩
  | .hbm, ⟨9, _⟩ => ⟨S16, .f32⟩
  | .hbm, ⟨10, _⟩ => ⟨S16x8, .f32⟩
  | .hbm, ⟨11, _⟩ => ⟨S8, .f32⟩
  | .hbm, ⟨12, _⟩ => ⟨S2x8x65536x32, .f32⟩
  | .hbm, ⟨13, _⟩ => ⟨S2x256x256, .f32⟩
  | .hbm, ⟨14, _⟩ => ⟨S2x65536x1, .f32⟩
  | .hbm, ⟨15, _⟩ => ⟨S1x16, .f32⟩
  | .hbm, ⟨16, _⟩ => ⟨S1x8, .f32⟩
  | .hbm, ⟨17, _⟩ => ⟨S2x65536x8, .f32⟩
  | .hbm, ⟨18, _⟩ => ⟨S2x256x256x8, .f32⟩
  | .local _ .vmem, ⟨0, _⟩ => ⟨S1x8x2048x32, .f32⟩
  | .local _ .vmem, ⟨1, _⟩ => ⟨S1x8x2048x32, .f32⟩
  | .local _ .vmem, ⟨2, _⟩ => ⟨S1x2048x1, .f32⟩
  | .local _ .vmem, ⟨3, _⟩ => ⟨S1x2048x1, .f32⟩
  | .local _ .vmem, ⟨4, _⟩ => ⟨S8x32x128, .f32⟩
  | .local _ .vmem, ⟨5, _⟩ => ⟨S8x128, .f32⟩
  | .local _ .vmem, ⟨6, _⟩ => ⟨S8x128x128, .f32⟩
  | .local _ .vmem, ⟨7, _⟩ => ⟨S8x128, .f32⟩
  | .local _ .vmem, ⟨8, _⟩ => ⟨S8x128x1, .f32⟩
  | .local _ .vmem, ⟨9, _⟩ => ⟨S8x1, .f32⟩
  | .local _ .vmem, ⟨10, _⟩ => ⟨S8x16, .f32⟩
  | .local _ .vmem, ⟨11, _⟩ => ⟨S1x16, .f32⟩
  | .local _ .vmem, ⟨12, _⟩ => ⟨S16x8, .f32⟩
  | .local _ .vmem, ⟨13, _⟩ => ⟨S1x8, .f32⟩
  | .local _ .vmem, ⟨14, _⟩ => ⟨S1x2048x8, .f32⟩
  | .local _ .vmem, ⟨15, _⟩ => ⟨S1x2048x8, .f32⟩
  | _, _ => ⟨S2x8x256x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x2048x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2x8x256x256x32 : Shape := ⟨5, ![2, 8, 256, 256, 32]⟩
abbrev S2x256x256 : Shape := ⟨3, ![2, 256, 256]⟩
abbrev S8x32x128 : Shape := ⟨3, ![8, 32, 128]⟩
abbrev S8x128 : Shape := ⟨2, ![8, 128]⟩
abbrev S8x128x128 : Shape := ⟨3, ![8, 128, 128]⟩
abbrev S8x128x1 : Shape := ⟨3, ![8, 128, 1]⟩
abbrev S8x1 : Shape := ⟨2, ![8, 1]⟩
abbrev S8x16 : Shape := ⟨2, ![8, 16]⟩
abbrev S16 : Shape := ⟨1, ![16]⟩
abbrev S16x8 : Shape := ⟨2, ![16, 8]⟩
abbrev S8 : Shape := ⟨1, ![8]⟩
abbrev S2x256x256x1 : Shape := ⟨4, ![2, 256, 256, 1]⟩
abbrev S2x1x256x256x32 : Shape := ⟨5, ![2, 1, 256, 256, 32]⟩
abbrev S2x256x256x32 : Shape := ⟨4, ![2, 256, 256, 32]⟩
abbrev S1x32x128 : Shape := ⟨3, ![1, 32, 128]⟩
abbrev S32x128 : Shape := ⟨2, ![32, 128]⟩
abbrev S2x256x256x128 : Shape := ⟨4, ![2, 256, 256, 128]⟩
abbrev S1x128 : Shape := ⟨2, ![1, 128]⟩
abbrev S128 : Shape := ⟨1, ![128]⟩
abbrev S1x1x1x128 : Shape := ⟨4, ![1, 1, 1, 128]⟩
abbrev S_ : Shape := ⟨0, ![]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S1x1 : Shape := ⟨2, ![1, 1]⟩
abbrev S1 : Shape := ⟨1, ![1]⟩
abbrev S1x1x1x1 : Shape := ⟨4, ![1, 1, 1, 1]⟩
abbrev S2x256x256x8 : Shape := ⟨4, ![2, 256, 256, 8]⟩
abbrev S2x256x256x16 : Shape := ⟨4, ![2, 256, 256, 16]⟩
abbrev S1x1x1x16 : Shape := ⟨4, ![1, 1, 1, 16]⟩
abbrev S1x1x1x8 : Shape := ⟨4, ![1, 1, 1, 8]⟩

abbrev nBuf : Space → Nat
  | .hbm => 318
  | .vmem => 0
  | .smem => 0
  | _ => 0

abbrev hbmTy0_0 (i : Nat) : BufTy := match i % 128 with
  | 0 => ⟨S2x8x256x256x32, .f32⟩
  | 1 => ⟨S2x256x256, .i1⟩
  | 2 => ⟨S8x32x128, .f32⟩
  | 3 => ⟨S8x128, .f32⟩
  | 4 => ⟨S8x128x128, .f32⟩
  | 5 => ⟨S8x128, .f32⟩
  | 6 => ⟨S8x128x1, .f32⟩
  | 7 => ⟨S8x1, .f32⟩
  | 8 => ⟨S8x16, .f32⟩
  | 9 => ⟨S16, .f32⟩
  | 10 => ⟨S16x8, .f32⟩
  | 11 => ⟨S8, .f32⟩
  | 12 => ⟨S2x256x256x1, .i1⟩
  | 13 => ⟨S2x1x256x256x32, .f32⟩
  | 14 => ⟨S2x256x256x32, .f32⟩
  | 15 => ⟨S1x32x128, .f32⟩
  | 16 => ⟨S32x128, .f32⟩
  | 17 => ⟨S2x256x256x128, .f32⟩
  | 18 => ⟨S1x128, .f32⟩
  | 19 => ⟨S128, .f32⟩
  | 20 => ⟨S1x1x1x128, .f32⟩
  | 21 => ⟨S2x256x256x128, .f32⟩
  | 22 => ⟨S2x256x256x128, .f32⟩
  | 23 => ⟨S_, .f32⟩
  | 24 => ⟨S2x256x256x128, .f32⟩
  | 25 => ⟨S2x256x256x128, .f32⟩
  | 26 => ⟨S1x128x128, .f32⟩
  | 27 => ⟨S128x128, .f32⟩
  | 28 => ⟨S2x256x256x128, .f32⟩
  | 29 => ⟨S1x128, .f32⟩
  | 30 => ⟨S128, .f32⟩
  | 31 => ⟨S1x1x1x128, .f32⟩
  | 32 => ⟨S2x256x256x128, .f32⟩
  | 33 => ⟨S2x256x256x128, .f32⟩
  | 34 => ⟨S_, .f32⟩
  | 35 => ⟨S2x256x256x128, .f32⟩
  | 36 => ⟨S2x256x256x128, .f32⟩
  | 37 => ⟨S1x128x1, .f32⟩
  | 38 => ⟨S128x1, .f32⟩
  | 39 => ⟨S2x256x256x1, .f32⟩
  | 40 => ⟨S1x1, .f32⟩
  | 41 => ⟨S1, .f32⟩
  | 42 => ⟨S1x1x1x1, .f32⟩
  | 43 => ⟨S2x256x256x1, .f32⟩
  | 44 => ⟨S2x256x256x1, .f32⟩
  | 45 => ⟨S_, .f32⟩
  | 46 => ⟨S_, .f32⟩
  | 47 => ⟨S2x256x256x1, .f32⟩
  | 48 => ⟨S2x256x256x1, .f32⟩
  | 49 => ⟨S2x1x256x256x32, .f32⟩
  | 50 => ⟨S2x256x256x32, .f32⟩
  | 51 => ⟨S1x32x128, .f32⟩
  | 52 => ⟨S32x128, .f32⟩
  | 53 => ⟨S2x256x256x128, .f32⟩
  | 54 => ⟨S1x128, .f32⟩
  | 55 => ⟨S128, .f32⟩
  | 56 => ⟨S1x1x1x128, .f32⟩
  | 57 => ⟨S2x256x256x128, .f32⟩
  | 58 => ⟨S2x256x256x128, .f32⟩
  | 59 => ⟨S_, .f32⟩
  | 60 => ⟨S2x256x256x128, .f32⟩
  | 61 => ⟨S2x256x256x128, .f32⟩
  | 62 => ⟨S1x128x128, .f32⟩
  | 63 => ⟨S128x128, .f32⟩
  | 64 => ⟨S2x256x256x128, .f32⟩
  | 65 => ⟨S1x128, .f32⟩
  | 66 => ⟨S128, .f32⟩
  | 67 => ⟨S1x1x1x128, .f32⟩
  | 68 => ⟨S2x256x256x128, .f32⟩
  | 69 => ⟨S2x256x256x128, .f32⟩
  | 70 => ⟨S_, .f32⟩
  | 71 => ⟨S2x256x256x128, .f32⟩
  | 72 => ⟨S2x256x256x128, .f32⟩
  | 73 => ⟨S1x128x1, .f32⟩
  | 74 => ⟨S128x1, .f32⟩
  | 75 => ⟨S2x256x256x1, .f32⟩
  | 76 => ⟨S1x1, .f32⟩
  | 77 => ⟨S1, .f32⟩
  | 78 => ⟨S1x1x1x1, .f32⟩
  | 79 => ⟨S2x256x256x1, .f32⟩
  | 80 => ⟨S2x256x256x1, .f32⟩
  | 81 => ⟨S_, .f32⟩
  | 82 => ⟨S_, .f32⟩
  | 83 => ⟨S2x256x256x1, .f32⟩
  | 84 => ⟨S2x256x256x1, .f32⟩
  | 85 => ⟨S2x1x256x256x32, .f32⟩
  | 86 => ⟨S2x256x256x32, .f32⟩
  | 87 => ⟨S1x32x128, .f32⟩
  | 88 => ⟨S32x128, .f32⟩
  | 89 => ⟨S2x256x256x128, .f32⟩
  | 90 => ⟨S1x128, .f32⟩
  | 91 => ⟨S128, .f32⟩
  | 92 => ⟨S1x1x1x128, .f32⟩
  | 93 => ⟨S2x256x256x128, .f32⟩
  | 94 => ⟨S2x256x256x128, .f32⟩
  | 95 => ⟨S_, .f32⟩
  | 96 => ⟨S2x256x256x128, .f32⟩
  | 97 => ⟨S2x256x256x128, .f32⟩
  | 98 => ⟨S1x128x128, .f32⟩
  | 99 => ⟨S128x128, .f32⟩
  | 100 => ⟨S2x256x256x128, .f32⟩
  | 101 => ⟨S1x128, .f32⟩
  | 102 => ⟨S128, .f32⟩
  | 103 => ⟨S1x1x1x128, .f32⟩
  | 104 => ⟨S2x256x256x128, .f32⟩
  | 105 => ⟨S2x256x256x128, .f32⟩
  | 106 => ⟨S_, .f32⟩
  | 107 => ⟨S2x256x256x128, .f32⟩
  | 108 => ⟨S2x256x256x128, .f32⟩
  | 109 => ⟨S1x128x1, .f32⟩
  | 110 => ⟨S128x1, .f32⟩
  | 111 => ⟨S2x256x256x1, .f32⟩
  | 112 => ⟨S1x1, .f32⟩
  | 113 => ⟨S1, .f32⟩
  | 114 => ⟨S1x1x1x1, .f32⟩
  | 115 => ⟨S2x256x256x1, .f32⟩
  | 116 => ⟨S2x256x256x1, .f32⟩
  | 117 => ⟨S_, .f32⟩
  | 118 => ⟨S_, .f32⟩
  | 119 => ⟨S2x256x256x1, .f32⟩
  | 120 => ⟨S2x256x256x1, .f32⟩
  | 121 => ⟨S2x1x256x256x32, .f32⟩
  | 122 => ⟨S2x256x256x32, .f32⟩
  | 123 => ⟨S1x32x128, .f32⟩
  | 124 => ⟨S32x128, .f32⟩
  | 125 => ⟨S2x256x256x128, .f32⟩
  | 126 => ⟨S1x128, .f32⟩
  | 127 => ⟨S128, .f32⟩
  | _ => ⟨S2x8x256x256x32, .f32⟩

abbrev hbmTy0_1 (i : Nat) : BufTy := match i % 128 with
  | 0 => ⟨S1x1x1x128, .f32⟩
  | 1 => ⟨S2x256x256x128, .f32⟩
  | 2 => ⟨S2x256x256x128, .f32⟩
  | 3 => ⟨S_, .f32⟩
  | 4 => ⟨S2x256x256x128, .f32⟩
  | 5 => ⟨S2x256x256x128, .f32⟩
  | 6 => ⟨S1x128x128, .f32⟩
  | 7 => ⟨S128x128, .f32⟩
  | 8 => ⟨S2x256x256x128, .f32⟩
  | 9 => ⟨S1x128, .f32⟩
  | 10 => ⟨S128, .f32⟩
  | 11 => ⟨S1x1x1x128, .f32⟩
  | 12 => ⟨S2x256x256x128, .f32⟩
  | 13 => ⟨S2x256x256x128, .f32⟩
  | 14 => ⟨S_, .f32⟩
  | 15 => ⟨S2x256x256x128, .f32⟩
  | 16 => ⟨S2x256x256x128, .f32⟩
  | 17 => ⟨S1x128x1, .f32⟩
  | 18 => ⟨S128x1, .f32⟩
  | 19 => ⟨S2x256x256x1, .f32⟩
  | 20 => ⟨S1x1, .f32⟩
  | 21 => ⟨S1, .f32⟩
  | 22 => ⟨S1x1x1x1, .f32⟩
  | 23 => ⟨S2x256x256x1, .f32⟩
  | 24 => ⟨S2x256x256x1, .f32⟩
  | 25 => ⟨S_, .f32⟩
  | 26 => ⟨S_, .f32⟩
  | 27 => ⟨S2x256x256x1, .f32⟩
  | 28 => ⟨S2x256x256x1, .f32⟩
  | 29 => ⟨S2x1x256x256x32, .f32⟩
  | 30 => ⟨S2x256x256x32, .f32⟩
  | 31 => ⟨S1x32x128, .f32⟩
  | 32 => ⟨S32x128, .f32⟩
  | 33 => ⟨S2x256x256x128, .f32⟩
  | 34 => ⟨S1x128, .f32⟩
  | 35 => ⟨S128, .f32⟩
  | 36 => ⟨S1x1x1x128, .f32⟩
  | 37 => ⟨S2x256x256x128, .f32⟩
  | 38 => ⟨S2x256x256x128, .f32⟩
  | 39 => ⟨S_, .f32⟩
  | 40 => ⟨S2x256x256x128, .f32⟩
  | 41 => ⟨S2x256x256x128, .f32⟩
  | 42 => ⟨S1x128x128, .f32⟩
  | 43 => ⟨S128x128, .f32⟩
  | 44 => ⟨S2x256x256x128, .f32⟩
  | 45 => ⟨S1x128, .f32⟩
  | 46 => ⟨S128, .f32⟩
  | 47 => ⟨S1x1x1x128, .f32⟩
  | 48 => ⟨S2x256x256x128, .f32⟩
  | 49 => ⟨S2x256x256x128, .f32⟩
  | 50 => ⟨S_, .f32⟩
  | 51 => ⟨S2x256x256x128, .f32⟩
  | 52 => ⟨S2x256x256x128, .f32⟩
  | 53 => ⟨S1x128x1, .f32⟩
  | 54 => ⟨S128x1, .f32⟩
  | 55 => ⟨S2x256x256x1, .f32⟩
  | 56 => ⟨S1x1, .f32⟩
  | 57 => ⟨S1, .f32⟩
  | 58 => ⟨S1x1x1x1, .f32⟩
  | 59 => ⟨S2x256x256x1, .f32⟩
  | 60 => ⟨S2x256x256x1, .f32⟩
  | 61 => ⟨S_, .f32⟩
  | 62 => ⟨S_, .f32⟩
  | 63 => ⟨S2x256x256x1, .f32⟩
  | 64 => ⟨S2x256x256x1, .f32⟩
  | 65 => ⟨S2x1x256x256x32, .f32⟩
  | 66 => ⟨S2x256x256x32, .f32⟩
  | 67 => ⟨S1x32x128, .f32⟩
  | 68 => ⟨S32x128, .f32⟩
  | 69 => ⟨S2x256x256x128, .f32⟩
  | 70 => ⟨S1x128, .f32⟩
  | 71 => ⟨S128, .f32⟩
  | 72 => ⟨S1x1x1x128, .f32⟩
  | 73 => ⟨S2x256x256x128, .f32⟩
  | 74 => ⟨S2x256x256x128, .f32⟩
  | 75 => ⟨S_, .f32⟩
  | 76 => ⟨S2x256x256x128, .f32⟩
  | 77 => ⟨S2x256x256x128, .f32⟩
  | 78 => ⟨S1x128x128, .f32⟩
  | 79 => ⟨S128x128, .f32⟩
  | 80 => ⟨S2x256x256x128, .f32⟩
  | 81 => ⟨S1x128, .f32⟩
  | 82 => ⟨S128, .f32⟩
  | 83 => ⟨S1x1x1x128, .f32⟩
  | 84 => ⟨S2x256x256x128, .f32⟩
  | 85 => ⟨S2x256x256x128, .f32⟩
  | 86 => ⟨S_, .f32⟩
  | 87 => ⟨S2x256x256x128, .f32⟩
  | 88 => ⟨S2x256x256x128, .f32⟩
  | 89 => ⟨S1x128x1, .f32⟩
  | 90 => ⟨S128x1, .f32⟩
  | 91 => ⟨S2x256x256x1, .f32⟩
  | 92 => ⟨S1x1, .f32⟩
  | 93 => ⟨S1, .f32⟩
  | 94 => ⟨S1x1x1x1, .f32⟩
  | 95 => ⟨S2x256x256x1, .f32⟩
  | 96 => ⟨S2x256x256x1, .f32⟩
  | 97 => ⟨S_, .f32⟩
  | 98 => ⟨S_, .f32⟩
  | 99 => ⟨S2x256x256x1, .f32⟩
  | 100 => ⟨S2x256x256x1, .f32⟩
  | 101 => ⟨S2x1x256x256x32, .f32⟩
  | 102 => ⟨S2x256x256x32, .f32⟩
  | 103 => ⟨S1x32x128, .f32⟩
  | 104 => ⟨S32x128, .f32⟩
  | 105 => ⟨S2x256x256x128, .f32⟩
  | 106 => ⟨S1x128, .f32⟩
  | 107 => ⟨S128, .f32⟩
  | 108 => ⟨S1x1x1x128, .f32⟩
  | 109 => ⟨S2x256x256x128, .f32⟩
  | 110 => ⟨S2x256x256x128, .f32⟩
  | 111 => ⟨S_, .f32⟩
  | 112 => ⟨S2x256x256x128, .f32⟩
  | 113 => ⟨S2x256x256x128, .f32⟩
  | 114 => ⟨S1x128x128, .f32⟩
  | 115 => ⟨S128x128, .f32⟩
  | 116 => ⟨S2x256x256x128, .f32⟩
  | 117 => ⟨S1x128, .f32⟩
  | 118 => ⟨S128, .f32⟩
  | 119 => ⟨S1x1x1x128, .f32⟩
  | 120 => ⟨S2x256x256x128, .f32⟩
  | 121 => ⟨S2x256x256x128, .f32⟩
  | 122 => ⟨S_, .f32⟩
  | 123 => ⟨S2x256x256x128, .f32⟩
  | 124 => ⟨S2x256x256x128, .f32⟩
  | 125 => ⟨S1x128x1, .f32⟩
  | 126 => ⟨S128x1, .f32⟩
  | 127 => ⟨S2x256x256x1, .f32⟩
  | _ => ⟨S2x8x256x256x32, .f32⟩

abbrev hbmTy0_2 (i : Nat) : BufTy := match i % 128 with
  | 0 => ⟨S1x1, .f32⟩
  | 1 => ⟨S1, .f32⟩
  | 2 => ⟨S1x1x1x1, .f32⟩
  | 3 => ⟨S2x256x256x1, .f32⟩
  | 4 => ⟨S2x256x256x1, .f32⟩
  | 5 => ⟨S_, .f32⟩
  | 6 => ⟨S_, .f32⟩
  | 7 => ⟨S2x256x256x1, .f32⟩
  | 8 => ⟨S2x256x256x1, .f32⟩
  | 9 => ⟨S2x1x256x256x32, .f32⟩
  | 10 => ⟨S2x256x256x32, .f32⟩
  | 11 => ⟨S1x32x128, .f32⟩
  | 12 => ⟨S32x128, .f32⟩
  | 13 => ⟨S2x256x256x128, .f32⟩
  | 14 => ⟨S1x128, .f32⟩
  | 15 => ⟨S128, .f32⟩
  | 16 => ⟨S1x1x1x128, .f32⟩
  | 17 => ⟨S2x256x256x128, .f32⟩
  | 18 => ⟨S2x256x256x128, .f32⟩
  | 19 => ⟨S_, .f32⟩
  | 20 => ⟨S2x256x256x128, .f32⟩
  | 21 => ⟨S2x256x256x128, .f32⟩
  | 22 => ⟨S1x128x128, .f32⟩
  | 23 => ⟨S128x128, .f32⟩
  | 24 => ⟨S2x256x256x128, .f32⟩
  | 25 => ⟨S1x128, .f32⟩
  | 26 => ⟨S128, .f32⟩
  | 27 => ⟨S1x1x1x128, .f32⟩
  | 28 => ⟨S2x256x256x128, .f32⟩
  | 29 => ⟨S2x256x256x128, .f32⟩
  | 30 => ⟨S_, .f32⟩
  | 31 => ⟨S2x256x256x128, .f32⟩
  | 32 => ⟨S2x256x256x128, .f32⟩
  | 33 => ⟨S1x128x1, .f32⟩
  | 34 => ⟨S128x1, .f32⟩
  | 35 => ⟨S2x256x256x1, .f32⟩
  | 36 => ⟨S1x1, .f32⟩
  | 37 => ⟨S1, .f32⟩
  | 38 => ⟨S1x1x1x1, .f32⟩
  | 39 => ⟨S2x256x256x1, .f32⟩
  | 40 => ⟨S2x256x256x1, .f32⟩
  | 41 => ⟨S_, .f32⟩
  | 42 => ⟨S_, .f32⟩
  | 43 => ⟨S2x256x256x1, .f32⟩
  | 44 => ⟨S2x256x256x1, .f32⟩
  | 45 => ⟨S2x256x256x8, .f32⟩
  | 46 => ⟨S2x256x256x16, .f32⟩
  | 47 => ⟨S1x1x1x16, .f32⟩
  | 48 => ⟨S2x256x256x16, .f32⟩
  | 49 => ⟨S2x256x256x16, .f32⟩
  | 50 => ⟨S_, .f32⟩
  | 51 => ⟨S2x256x256x16, .f32⟩
  | 52 => ⟨S2x256x256x16, .f32⟩
  | 53 => ⟨S2x256x256x8, .f32⟩
  | 54 => ⟨S1x1x1x8, .f32⟩
  | 55 => ⟨S2x256x256x8, .f32⟩
  | 56 => ⟨S2x256x256x8, .f32⟩
  | 57 => ⟨S_, .f32⟩
  | 58 => ⟨S_, .f32⟩
  | 59 => ⟨S2x256x256x8, .i1⟩
  | 60 => ⟨S2x256x256x8, .f32⟩
  | 61 => ⟨S2x256x256x8, .f32⟩
  | _ => ⟨S2x8x256x256x32, .f32⟩

abbrev hbmTy (i : Nat) : BufTy := match i / 128 with
  | 0 => hbmTy0_0 i
  | 1 => hbmTy0_1 i
  | 2 => hbmTy0_2 i
  | _ => ⟨S2x8x256x256x32, .f32⟩

abbrev bufTy : (tb : Table) → Fin (tcTables nBuf tb) → BufTy
  | .hbm, ⟨i, _⟩ => hbmTy i
  | _, _ => ⟨S2x8x256x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_call2_v0 : Ref sig .tc := ⟨.hbm, 46, rfl⟩
abbrev main_call2_v1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call3_cst : Ref sig .tc := ⟨.hbm, 59, rfl⟩
abbrev main_call3_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call4_cst : Ref sig .tc := ⟨.hbm, 70, rfl⟩
abbrev main_call4_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_0 : Ref sig .tc := ⟨.hbm, 81, rfl⟩
abbrev main_call5_v0 : Ref sig .tc := ⟨.hbm, 82, rfl⟩
abbrev main_call5_v1 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call6_cst : Ref sig .tc := ⟨.hbm, 95, rfl⟩
abbrev main_call6_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_call7_cst : Ref sig .tc := ⟨.hbm, 106, rfl⟩
abbrev main_call7_v0 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_1 : Ref sig .tc := ⟨.hbm, 117, rfl⟩
abbrev main_call8_v0 : Ref sig .tc := ⟨.hbm, 118, rfl⟩
abbrev main_call8_v1 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call9_cst : Ref sig .tc := ⟨.hbm, 131, rfl⟩
abbrev main_call9_v0 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_call10_cst : Ref sig .tc := ⟨.hbm, 142, rfl⟩
abbrev main_call10_v0 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_2 : Ref sig .tc := ⟨.hbm, 153, rfl⟩
abbrev main_call11_v0 : Ref sig .tc := ⟨.hbm, 154, rfl⟩
abbrev main_call11_v1 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_call12_cst : Ref sig .tc := ⟨.hbm, 167, rfl⟩
abbrev main_call12_v0 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_call13_cst : Ref sig .tc := ⟨.hbm, 178, rfl⟩
abbrev main_call13_v0 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_3 : Ref sig .tc := ⟨.hbm, 189, rfl⟩
abbrev main_call14_v0 : Ref sig .tc := ⟨.hbm, 190, rfl⟩
abbrev main_call14_v1 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_call15_cst : Ref sig .tc := ⟨.hbm, 203, rfl⟩
abbrev main_call15_v0 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_call16_cst : Ref sig .tc := ⟨.hbm, 214, rfl⟩
abbrev main_call16_v0 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_4 : Ref sig .tc := ⟨.hbm, 225, rfl⟩
abbrev main_call17_v0 : Ref sig .tc := ⟨.hbm, 226, rfl⟩
abbrev main_call17_v1 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_call18_cst : Ref sig .tc := ⟨.hbm, 239, rfl⟩
abbrev main_call18_v0 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_call19_cst : Ref sig .tc := ⟨.hbm, 250, rfl⟩
abbrev main_call19_v0 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_cst_5 : Ref sig .tc := ⟨.hbm, 261, rfl⟩
abbrev main_call20_v0 : Ref sig .tc := ⟨.hbm, 262, rfl⟩
abbrev main_call20_v1 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_call21_cst : Ref sig .tc := ⟨.hbm, 275, rfl⟩
abbrev main_call21_v0 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_call22_cst : Ref sig .tc := ⟨.hbm, 286, rfl⟩
abbrev main_call22_v0 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_cst_6 : Ref sig .tc := ⟨.hbm, 297, rfl⟩
abbrev main_call23_v0 : Ref sig .tc := ⟨.hbm, 298, rfl⟩
abbrev main_call23_v1 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_call24_cst : Ref sig .tc := ⟨.hbm, 306, rfl⟩
abbrev main_call24_v0 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_cst_7 : Ref sig .tc := ⟨.hbm, 313, rfl⟩
abbrev main_call25_v0 : Ref sig .tc := ⟨.hbm, 314, rfl⟩
abbrev main_call25_v1 : Ref sig .tc := ⟨.hbm, 315, rfl⟩
abbrev main_call25_v2 : Ref sig .tc := ⟨.hbm, 316, rfl⟩
abbrev main_v243 : Ref sig .tc := ⟨.hbm, 317, rfl⟩

abbrev nD : Nat := 1
abbrev τ : Topo := Topo.v7x

variable {F : FTy → Type} [FloatOps F]
-- ==== Proof.Math.lean ====
/-
  The mathematics of one pixel, over the extended reals and with no program in sight: eight two-layer perceptrons whose
  128 hidden values each are projected to one number, mixed by a 16-unit layer and projected to 8 outputs. `plainOut`
  computes it as written; `fusedOut` first multiplies each perceptron's last weights into the mixing weights, so the
  eight one-number results are never formed. `fusedOut_eq_plainOut`: the two agree where the hidden values and the two
  factors of every fused weight are real numbers.
-/
module

public import Mathlib.Data.EReal.Inv
public import Mathlib.Algebra.BigOperators.Fin

@[expose] public section

noncomputable section

namespace Cert.Math

/-- An extended real that is a real number. -/
def IsReal (x : EReal) : Prop := ∃ r : ℝ, x = (r : EReal)

/-- The positive part. -/
def relu (x : EReal) : EReal := max x 0

/-- One unit `j` of a linear layer with weights `w` and bias `b`. -/
def dense {n m : ℕ} (w : Fin n → Fin m → EReal) (b : Fin m → EReal) (x : Fin n → EReal) (j : Fin m) : EReal :=
  ∑ k, x k * w k j + b j

/-- The 128 hidden values of one perceptron: two linear layers, each followed by the positive part. -/
def hiddenOf (w1 : Fin 32 → Fin 128 → EReal) (b1 : Fin 128 → EReal) (w2 : Fin 128 → Fin 128 → EReal) (b2 : Fin 128 → EReal)
    (x : Fin 32 → EReal) (k : Fin 128) : EReal :=
  relu (dense w2 b2 (fun h => relu (dense w1 b1 x h)) k)

/-- The eight outputs from the eight perceptrons' hidden values `h`, as written: each perceptron's last layer, the
    mixing layer, the output layer. -/
def plainOut (h w3 : Fin 8 → Fin 128 → EReal) (b3 : Fin 8 → EReal) (wc1 : Fin 8 → Fin 16 → EReal) (bc1 : Fin 16 → EReal)
    (wc2 : Fin 16 → Fin 8 → EReal) (bc2 : Fin 8 → EReal) (o : Fin 8) : EReal :=
  dense wc2 bc2 (fun j => relu (dense wc1 bc1 (fun i => ∑ k, h i k * w3 i k + b3 i) j)) o

/-- The same outputs with every perceptron's last layer multiplied into the mixing layer. -/
def fusedOut (h w3 : Fin 8 → Fin 128 → EReal) (b3 : Fin 8 → EReal) (wc1 : Fin 8 → Fin 16 → EReal) (bc1 : Fin 16 → EReal)
    (wc2 : Fin 16 → Fin 8 → EReal) (bc2 : Fin 8 → EReal) (o : Fin 8) : EReal :=
  dense wc2 bc2 (fun j => relu ((∑ i, ∑ k, h i k * (w3 i k * wc1 i j)) + (bc1 j + ∑ i, b3 i * wc1 i j))) o

/-! ## Real numbers stay real -/

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.relu {x : EReal} (hx : IsReal x) : IsReal (relu x) := by
  unfold Math.relu
  rcases max_choice x 0 with h | h <;> rw [h]
  exacts [hx, .zero]

theorem IsReal.sum {ι : Type} (s : Finset ι) {f : ι → EReal} (hf : ∀ i, IsReal (f i)) : IsReal (∑ i ∈ s, f i) :=
  Finset.sum_induction f IsReal (fun _ _ => IsReal.add) .zero fun i _ => hf i

/-- A linear layer with real inputs, weights and bias has real units. -/
theorem IsReal.dense {n m : ℕ} {w : Fin n → Fin m → EReal} {b : Fin m → EReal} {x : Fin n → EReal}
    (hw : ∀ k j, IsReal (w k j)) (hb : ∀ j, IsReal (b j)) (hx : ∀ k, IsReal (x k)) (j : Fin m) : IsReal (dense w b x j) :=
  .add (.sum _ fun k => (hx k).mul (hw k j)) (hb j)

/-- A perceptron with real inputs and parameters has real hidden values. -/
theorem IsReal.hiddenOf {w1 : Fin 32 → Fin 128 → EReal} {b1 : Fin 128 → EReal} {w2 : Fin 128 → Fin 128 → EReal}
    {b2 : Fin 128 → EReal} {x : Fin 32 → EReal} (hw1 : ∀ k j, IsReal (w1 k j)) (hb1 : ∀ j, IsReal (b1 j))
    (hw2 : ∀ k j, IsReal (w2 k j)) (hb2 : ∀ j, IsReal (b2 j)) (hx : ∀ k, IsReal (x k)) (k : Fin 128) :
    IsReal (hiddenOf w1 b1 w2 b2 x k) :=
  .relu (.dense hw2 hb2 (fun _ => .relu (.dense hw1 hb1 hx _)) k)

/-! ## Multiplying a factor into a sum -/

/-- A real factor distributes over a sum whose first term is real, whatever the second is. -/
theorem add_mul_of_real {x c : EReal} (hx : IsReal x) (hc : IsReal c) (b : EReal) : (x + b) * c = x * c + b * c := by
  obtain ⟨r, rfl⟩ := hx; obtain ⟨c, rfl⟩ := hc
  induction b with
  | coe b => rw [← EReal.coe_add, ← EReal.coe_mul, ← EReal.coe_mul, ← EReal.coe_mul, ← EReal.coe_add, add_mul]
  | bot =>
    rw [EReal.add_bot]
    rcases lt_trichotomy c 0 with h | rfl | h
    · rw [EReal.bot_mul_coe_of_neg h, ← EReal.coe_mul, EReal.coe_add_top]
    · simp
    · rw [EReal.bot_mul_coe_of_pos h, EReal.add_bot]
  | top =>
    rw [EReal.coe_add_top]
    rcases lt_trichotomy c 0 with h | rfl | h
    · rw [EReal.top_mul_coe_of_neg h, EReal.add_bot]
    · simp
    · rw [EReal.top_mul_coe_of_pos h, ← EReal.coe_mul, EReal.coe_add_top]

/-- A real factor distributes over a sum of real terms. -/
theorem sum_mul_of_real {ι : Type} (s : Finset ι) {f : ι → EReal} {c : EReal} (hf : ∀ i, IsReal (f i)) (hc : IsReal c) :
    (∑ i ∈ s, f i) * c = ∑ i ∈ s, f i * c := by
  classical
  induction s using Finset.induction_on with
  | empty => simp
  | insert a s ha ih => rw [Finset.sum_insert ha, Finset.sum_insert ha, add_mul_of_real (hf a) hc, ih]

/-- Where the hidden values and both factors of every fused weight are real, the fused outputs are the plain ones. The
    biases `b3`, `bc1` and the output layer may hold anything. -/
theorem fusedOut_eq_plainOut {h w3 : Fin 8 → Fin 128 → EReal} (b3 : Fin 8 → EReal) {wc1 : Fin 8 → Fin 16 → EReal}
    (bc1 : Fin 16 → EReal) (wc2 : Fin 16 → Fin 8 → EReal) (bc2 : Fin 8 → EReal) (hh : ∀ i k, IsReal (h i k))
    (hw3 : ∀ i k, IsReal (w3 i k)) (hwc1 : ∀ i j, IsReal (wc1 i j)) (o : Fin 8) :
    fusedOut h w3 b3 wc1 bc1 wc2 bc2 o = plainOut h w3 b3 wc1 bc1 wc2 bc2 o := by
  unfold fusedOut plainOut
  congr 1
  funext j
  congr 1
  unfold dense
  have e (i : Fin 8) : (∑ k, h i k * w3 i k + b3 i) * wc1 i j = ∑ k, h i k * (w3 i k * wc1 i j) + b3 i * wc1 i j := by
    rw [add_mul_of_real (.sum _ fun k => (hh i k).mul (hw3 i k)) (hwc1 i j),
      sum_mul_of_real _ (fun k => (hh i k).mul (hw3 i k)) (hwc1 i j)]
    exact congrArg (· + _) (Finset.sum_congr rfl fun k _ => mul_assoc _ _ _)
  simp only [e, Finset.sum_add_distrib]
  rw [add_comm (bc1 j), add_assoc]

end Cert.Math

end
-- ==== Proof.Block.lean ====
/-
  What the kernel's body computes on one block of 2048 pixels, at the extended reals: each of its pure values read at an
  index, and from them the block it stores (`out_apply`) — the fused outputs of Math.lean times the pixel's mask value.
  The eight perceptrons' values have one text each, so one statement per text serves all eight.
-/
module

public import proofs.«01_k».proof.Proof.Math
public import proofs.«01_k».proof.Proof.Gen.KernelIdeal.Frame
public import Idealize.ShloMosaic.Lib.Pipeline.Value
public import Idealize.ShloMosaic.Lib.Pointwise

@[expose] public section

set_option maxRecDepth 16384

noncomputable section

open Idealize.ShloMosaic Cert.Math

namespace Cert.KernelIdeal.Block

open Cert.KernelIdeal Cert.KernelIdeal.Gen

/-- A perceptron's hidden values at row `r`: the two layers' positive parts of the row. -/
theorem hid_apply (v1 : Vec Ideal S1x1x2048x32 .f32) (v4 : Vec Ideal S1x32x128 .f32) (v8 : Vec Ideal S1x128 .f32)
    (v16 : Vec Ideal S1x128x128 .f32) (v20 : Vec Ideal S1x128 .f32) (r : Fin 2048) (k : Fin 128) :
    k0_pay3 v1 v4 v8 v16 v20 (ix2 r k)
      = hiddenOf (fun d h => v4 (ix3 0 d h)) (fun h => v8 (ix2 0 h)) (fun h k => v16 (ix3 0 h k)) (fun k => v20 (ix2 0 k))
          (fun d => v1 (ix4 0 0 r d)) k := by
  pointwise [k0_pay3]
  unfold hiddenOf relu dense
  rfl

/-- The fused weights: a perceptron's last weight times its mixing weight. -/
theorem weight_apply (v28 : Vec Ideal S1x128x1 .f32) (v30 : Vec Ideal S1x16 .f32) (k : Fin 128) (j : Fin 16) :
    k0_pay4 v28 v30 (ix2 k j) = v28 (ix3 0 k 0) * v30 (ix2 0 j) := by
  pointwise [k0_pay4]

/-- One perceptron's share added to the running sum. -/
theorem acc_apply (v0 : FVec Ideal S2048x16 .f32) (v27 : FVec Ideal S2048x128 .bf16) (v33 : FVec Ideal S128x16 .f32)
    (r : Fin 2048) (j : Fin 16) :
    k0_pay5 v0 v27 v33 (ix2 r j) = v0 (ix2 r j) + ∑ k : Fin 128, v27 (ix2 r k) * v33 (ix2 k j) := by
  pointwise [k0_pay5]

/-- The running sum starts at zero. -/
theorem start_apply (r : Fin 2048) (j : Fin 16) : k0_pay2 (F := Ideal) (ix2 r j) = 0 := by
  pointwise [k0_pay2]

/-- The block stored, from the running sum of seven perceptrons, the eighth's hidden values and fused weights, and the
    mixing layer's, output layer's and mask's blocks. -/
theorem last_apply (v252 : FVec Ideal S2048x16 .f32) (v279 : FVec Ideal S2048x128 .bf16) (v285 : FVec Ideal S128x16 .f32)
    (v289 : Vec Ideal S1x16 .f32) (v291 : Vec Ideal S8x1 .f32) (v292 : Vec Ideal S8x16 .f32) (v302 : Vec Ideal S16x8 .f32)
    (v304 : Vec Ideal S1x8 .f32) (v309 : Vec Ideal S1x2048x1 .f32) (r : Fin 2048) (o : Fin 8) :
    k0_pay1 v252 v279 v285 v289 v291 v292 v302 v304 v309 (ix3 0 r o)
      = dense (fun j o => v302 (ix2 j o)) (fun o => v304 (ix2 0 o))
          (fun j => relu (v252 (ix2 r j) + ∑ k : Fin 128, v279 (ix2 r k) * v285 (ix2 k j)
            + (v289 (ix2 0 j) + ∑ i : Fin 8, v291 (ix2 i 0) * v292 (ix2 i j)))) o
        * v309 (ix3 0 r 0) := by
  pointwise [k0_pay1]
  unfold relu dense
  rfl

/-! ## The loads: perceptron `i`'s slices of the staged blocks -/

/-- Perceptron `i`'s hidden values, from the staged blocks of the inputs and of the two layers' parameters. -/
def hid (x0 : Vec Ideal S1x8x2048x32 .f32) (x2 : Vec Ideal S8x32x128 .f32) (x3 : Vec Ideal S8x128 .f32)
    (x4 : Vec Ideal S8x128x128 .f32) (x5 : Vec Ideal S8x128 .f32) (i : Fin 8) : FVec Ideal S2048x128 .bf16 :=
  k0_pay3
    (View.ld x0 (Rect.unit ![0, i.val, 0, 0] S1x1x2048x32.size fun a => by fin_cases a <;> simp <;> omega))
    (View.ld x2 (Rect.unit ![i.val, 0, 0] S1x32x128.size fun a => by fin_cases a <;> simp <;> omega))
    (View.ld x3 (Rect.unit ![i.val, 0] S1x128.size fun a => by fin_cases a <;> simp <;> omega))
    (View.ld x4 (Rect.unit ![i.val, 0, 0] S1x128x128.size fun a => by fin_cases a <;> simp <;> omega))
    (View.ld x5 (Rect.unit ![i.val, 0] S1x128.size fun a => by fin_cases a <;> simp <;> omega))

/-- Perceptron `i`'s fused weights, from the staged blocks of its last layer and of the mixing weights. -/
def weight (x6 : Vec Ideal S8x128x1 .f32) (x8 : Vec Ideal S8x16 .f32) (i : Fin 8) : FVec Ideal S128x16 .f32 :=
  k0_pay4
    (View.ld x6 (Rect.unit ![i.val, 0, 0] S1x128x1.size fun a => by fin_cases a <;> simp <;> omega))
    (View.ld x8 (Rect.unit ![i.val, 0] S1x16.size fun a => by fin_cases a <;> simp <;> omega))

/-- Perceptron `i`'s hidden values at row `r` are those of row `r` of its input under its parameters. -/
theorem hid_at (x0 : Vec Ideal S1x8x2048x32 .f32) (x2 : Vec Ideal S8x32x128 .f32) (x3 : Vec Ideal S8x128 .f32)
    (x4 : Vec Ideal S8x128x128 .f32) (x5 : Vec Ideal S8x128 .f32) (i : Fin 8) (r : Fin 2048) (k : Fin 128) :
    hid x0 x2 x3 x4 x5 i (ix2 r k)
      = hiddenOf (fun d h => x2 (ix3 i d h)) (fun h => x3 (ix2 i h)) (fun h k => x4 (ix3 i h k)) (fun k => x5 (ix2 i k))
          (fun d => x0 (ix4 0 i r d)) k := by
  unfold hid
  rw [hid_apply]
  pointwise

/-- Perceptron `i`'s fused weight `(k, j)` is its last weight `k` times its mixing weight `j`. -/
theorem weight_at (x6 : Vec Ideal S8x128x1 .f32) (x8 : Vec Ideal S8x16 .f32) (i : Fin 8) (k : Fin 128) (j : Fin 16) :
    weight x6 x8 i (ix2 k j) = x6 (ix3 i k 0) * x8 (ix2 i j) := by
  unfold weight
  rw [weight_apply]
  pointwise

/-- Offsets that are all zero, at each rank. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The block the body stores is its last value over the running sum of the perceptrons in order. -/
theorem out_eq (x0 : Vec Ideal S1x8x2048x32 .f32) (x1 : Vec Ideal S1x2048x1 .f32) (x2 : Vec Ideal S8x32x128 .f32)
    (x3 : Vec Ideal S8x128 .f32) (x4 : Vec Ideal S8x128x128 .f32) (x5 : Vec Ideal S8x128 .f32) (x6 : Vec Ideal S8x128x1 .f32)
    (x7 : Vec Ideal S8x1 .f32) (x8 : Vec Ideal S8x16 .f32) (x9 : Vec Ideal S1x16 .f32) (x10 : Vec Ideal S16x8 .f32)
    (x11 : Vec Ideal S1x8 .f32) :
    out0_12 x0 x1 x2 x3 x4 x5 x6 x7 x8 x9 x10 x11
      = k0_pay1
          ([0, 1, 2, 3, 4, 5, 6].foldl (fun s i => k0_pay5 s (hid x0 x2 x3 x4 x5 i) (weight x6 x8 i)) k0_pay2)
          (hid x0 x2 x3 x4 x5 7) (weight x6 x8 7) x9 x7 x8 x10 x11 x1 := by
  unfold out0_12
  rw [View.canon_unit_zero zero3, View.ld_unit_zero zero2, View.ld_unit_zero zero2, View.ld_unit_zero zero2,
    View.ld_unit_zero zero2, View.ld_unit_zero zero2, View.ld_unit_zero zero3]
  rfl

/-- THE BLOCK: row `r` and output `o` of what the body stores is the fused output of row `r` times its mask value. -/
theorem out_apply (x0 : Vec Ideal S1x8x2048x32 .f32) (x1 : Vec Ideal S1x2048x1 .f32) (x2 : Vec Ideal S8x32x128 .f32)
    (x3 : Vec Ideal S8x128 .f32) (x4 : Vec Ideal S8x128x128 .f32) (x5 : Vec Ideal S8x128 .f32) (x6 : Vec Ideal S8x128x1 .f32)
    (x7 : Vec Ideal S8x1 .f32) (x8 : Vec Ideal S8x16 .f32) (x9 : Vec Ideal S1x16 .f32) (x10 : Vec Ideal S16x8 .f32)
    (x11 : Vec Ideal S1x8 .f32) (r : Fin 2048) (o : Fin 8) :
    out0_12 x0 x1 x2 x3 x4 x5 x6 x7 x8 x9 x10 x11 (ix3 0 r o)
      = fusedOut
          (fun i => hiddenOf (fun d h => x2 (ix3 i d h)) (fun h => x3 (ix2 i h)) (fun h k => x4 (ix3 i h k))
            (fun k => x5 (ix2 i k)) (fun d => x0 (ix4 0 i r d)))
          (fun i k => x6 (ix3 i k 0)) (fun i => x7 (ix2 i 0)) (fun i j => x8 (ix2 i j)) (fun j => x9 (ix2 0 j))
          (fun j o => x10 (ix2 j o)) (fun o => x11 (ix2 0 o)) o
        * x1 (ix3 0 r 0) := by
  rw [out_eq, last_apply]
  unfold fusedOut
  simp only [List.foldl_cons, List.foldl_nil, acc_apply, start_apply, hid_at, weight_at, Fin.sum_univ_eight, zero_add]

end Cert.KernelIdeal.Block

end
-- ==== Proof.Array.lean ====
/-
  The array the kernel returns: each grid point stages one batch's block of 2048 pixels and writes back the block's outputs (Block.lean); the blocks tile the result, so the
  result array holds at every batch, pixel and output the fused output of that pixel times its mask value; the host's last line splits the pixel index in row and column
  (`run`).
-/
module

public import proofs.«01_k».proof.Proof.Block
public import Idealize.ShloMosaic.Lib.StableHlo.ReadAt

@[expose] public section

noncomputable section

namespace Cert.KernelIdeal.Array

open Idealize.ShloMosaic Idealize.ShloMosaic.TcCoe Idealize.SL.Sem
open Idealize.ShloMosaic.Pipeline (Dat)
open Cert.Math Cert.KernelIdeal Cert.KernelIdeal.Gen

variable (m : (ℓ : Loc nD τ sig) → Buf (Elt Ideal) ℓ) (ρ : Dev nD → PrngReg)

/-! ## The grid: point `t` is batch `t / 32`, pixel block `t % 32` -/

theorem lt_N (t : Fin cfg0.N) : t.val < 64 := t.isLt

/-- The batch of point `t`. -/
def batch (t : Fin cfg0.N) : Fin 2 := ⟨t.val / 32, by have := lt_N t; omega⟩

/-- The pixel of row `r` of point `t`'s block. -/
def pixel (t : Fin cfg0.N) (r : Fin 2048) : Fin 65536 := ⟨t.val % 32 * 2048 + r.val, by omega⟩

/-- The block indices of the input images, of the mask and of the result at a point. -/
theorem index_0 : ∀ t : Fin grid0.N, win0_0.index t = ![t.val / 32, 0, t.val % 32, 0] := by decide +kernel
theorem index_1 : ∀ t : Fin grid0.N, win0_1.index t = ![t.val / 32, t.val % 32, 0] := by decide +kernel
theorem index_12 : ∀ t : Fin grid0.N, win0_12.index t = ![t.val / 32, t.val % 32, 0] := by decide +kernel

/-! ## The staged blocks, read -/

/-- The staged images at perceptron `i`, row `r`, feature `d`: the array at the point's batch and the row's pixel. -/
theorem iblk_0 (c : Dev nD) (t : Fin cfg0.N) (i : Fin 8) (r : Fin 2048) (d : Fin 32) :
    iblk m c 0 t (ix4 0 i r d) = V m c main_v0 (ix4 (batch t) i (pixel t r) d) := by
  show V m c main_v0 ((win0_0.rect t).emb (ix4 0 i r d)) = _
  refine congrArg _ (funext fun a => Fin.ext ?_)
  rw [Pipeline.Window.rect_emb_val win0_0, index_0]
  fin_cases a <;> simp [batch, pixel]

/-- The staged mask at row `r`: the array at the point's batch and the row's pixel. -/
theorem iblk_1 (c : Dev nD) (t : Fin cfg0.N) (r : Fin 2048) :
    iblk m c 1 t (ix3 0 r 0) = V m c main_v2 (ix3 (batch t) (pixel t r) 0) := by
  show V m c main_v2 ((win0_1.rect t).emb (ix3 0 r 0)) = _
  refine congrArg _ (funext fun a => Fin.ext ?_)
  rw [Pipeline.Window.rect_emb_val win0_1, index_1]
  fin_cases a <;> simp [batch, pixel]

/-- The parameters are staged whole at every point. -/
theorem iblk_2 (c : Dev nD) (t : Fin cfg0.N) : iblk m c 2 t = V m c main_arg2 := funext fun y =>
  congrArg (V m c main_arg2) (funext fun a => Fin.ext (by
    show ((win0_2.rect t).emb y a : Nat) = _
    rw [Pipeline.Window.rect_emb_val win0_2]; fin_cases a <;> simp <;> rfl))
theorem iblk_3 (c : Dev nD) (t : Fin cfg0.N) : iblk m c 3 t = V m c main_arg3 := funext fun y =>
  congrArg (V m c main_arg3) (funext fun a => Fin.ext (by
    show ((win0_3.rect t).emb y a : Nat) = _
    rw [Pipeline.Window.rect_emb_val win0_3]; fin_cases a <;> simp <;> rfl))
theorem iblk_4 (c : Dev nD) (t : Fin cfg0.N) : iblk m c 4 t = V m c main_arg4 := funext fun y =>
  congrArg (V m c main_arg4) (funext fun a => Fin.ext (by
    show ((win0_4.rect t).emb y a : Nat) = _
    rw [Pipeline.Window.rect_emb_val win0_4]; fin_cases a <;> simp <;> rfl))
theorem iblk_5 (c : Dev nD) (t : Fin cfg0.N) : iblk m c 5 t = V m c main_arg5 := funext fun y =>
  congrArg (V m c main_arg5) (funext fun a => Fin.ext (by
    show ((win0_5.rect t).emb y a : Nat) = _
    rw [Pipeline.Window.rect_emb_val win0_5]; fin_cases a <;> simp <;> rfl))
theorem iblk_6 (c : Dev nD) (t : Fin cfg0.N) : iblk m c 6 t = V m c main_arg6 := funext fun y =>
  congrArg (V m c main_arg6) (funext fun a => Fin.ext (by
    show ((win0_6.rect t).emb y a : Nat) = _
    rw [Pipeline.Window.rect_emb_val win0_6]; fin_cases a <;> simp <;> rfl))
theorem iblk_7 (c : Dev nD) (t : Fin cfg0.N) : iblk m c 7 t = V m c main_arg7 := funext fun y =>
  congrArg (V m c main_arg7) (funext fun a => Fin.ext (by
    show ((win0_7.rect t).emb y a : Nat) = _
    rw [Pipeline.Window.rect_emb_val win0_7]; fin_cases a <;> simp <;> rfl))
theorem iblk_8 (c : Dev nD) (t : Fin cfg0.N) : iblk m c 8 t = V m c main_arg8 := funext fun y =>
  congrArg (V m c main_arg8) (funext fun a => Fin.ext (by
    show ((win0_8.rect t).emb y a : Nat) = _
    rw [Pipeline.Window.rect_emb_val win0_8]; fin_cases a <;> simp <;> rfl))
theorem iblk_9 (c : Dev nD) (t : Fin cfg0.N) : iblk m c 9 t = V m c main_v3 := funext fun y =>
  congrArg (V m c main_v3) (funext fun a => Fin.ext (by
    show ((win0_9.rect t).emb y a : Nat) = _
    rw [Pipeline.Window.rect_emb_val win0_9]; fin_cases a <;> simp <;> rfl))
theorem iblk_10 (c : Dev nD) (t : Fin cfg0.N) : iblk m c 10 t = V m c main_arg10 := funext fun y =>
  congrArg (V m c main_arg10) (funext fun a => Fin.ext (by
    show ((win0_10.rect t).emb y a : Nat) = _
    rw [Pipeline.Window.rect_emb_val win0_10]; fin_cases a <;> simp <;> rfl))
theorem iblk_11 (c : Dev nD) (t : Fin cfg0.N) : iblk m c 11 t = V m c main_v4 := funext fun y =>
  congrArg (V m c main_v4) (funext fun a => Fin.ext (by
    show ((win0_11.rect t).emb y a : Nat) = _
    rw [Pipeline.Window.rect_emb_val win0_11]; fin_cases a <;> simp <;> rfl))

/-! ## The host's lines before the region -/

/-- The pixel at row `y`, column `x` of an image. -/
def flat (y x : Fin 256) : Fin 65536 := ⟨y.val * 256 + x.val, by omega⟩

/-- The images with their pixels in a row are the images given. -/
theorem V_images (c : Dev nD) (b : Fin 2) (i : Fin 8) (y x : Fin 256) (d : Fin 32) :
    V m c main_v0 (ix4 b i (flat y x) d) = m ((c : Thread nD τ).loc main_arg0) (ix5 b i y x d) := by
  unfold V V0 flat
  after_reads_at

/-- The mask as a number, its pixels in a row. -/
theorem V_mask (c : Dev nD) (b : Fin 2) (y x : Fin 256) :
    V m c main_v2 (ix3 b (flat y x) 0) = FloatOps.uitofp (F := Ideal) .f32 (m ((c : Thread nD τ).loc main_arg1) (ix3 b y x)) := by
  unfold V V0 flat
  after_reads_at

/-- The bias rows are the biases given. -/
theorem V_mixBias (c : Dev nD) (j : Fin 16) :
    V m c main_v3 (ix2 0 j) = m ((c : Thread nD τ).loc main_arg9) (ix1 j) := by
  unfold V V0
  after_reads_at
theorem V_outBias (c : Dev nD) (o : Fin 8) :
    V m c main_v4 (ix2 0 o) = m ((c : Thread nD τ).loc main_arg11) (ix1 o) := by
  unfold V V0
  after_reads_at

/-! ## The array after the last point -/

/-- Output `o` of one pixel from the parameters as arrays, the pixel's inputs `x` and its mask value: the fused output times the mask value. -/
def pixelOut (w1 : S8x32x128.Idx → EReal) (b1 : S8x128.Idx → EReal) (w2 : S8x128x128.Idx → EReal) (b2 : S8x128.Idx → EReal)
    (w3 : S8x128x1.Idx → EReal) (b3 : S8x1.Idx → EReal) (wc1 : S8x16.Idx → EReal) (bc1 : Fin 16 → EReal) (wc2 : S16x8.Idx → EReal)
    (bc2 : Fin 8 → EReal) (x : Fin 8 → Fin 32 → EReal) (mask : EReal) (o : Fin 8) : EReal :=
  fusedOut
      (fun i => hiddenOf (fun d h => w1 (ix3 i d h)) (fun h => b1 (ix2 i h)) (fun h k => w2 (ix3 i h k)) (fun k => b2 (ix2 i k)) (x i))
      (fun i k => w3 (ix3 i k 0)) (fun i => b3 (ix2 i 0)) (fun i j => wc1 (ix2 i j)) bc1 (fun j o => wc2 (ix2 j o)) bc2 o
    * mask

/-- Batch `b`, pixel `p`, output `o` of the kernel's array. -/
def outAt (c : Dev nD) (b : Fin 2) (p : Fin 65536) (o : Fin 8) : EReal :=
  pixelOut (V m c main_arg2) (V m c main_arg3) (V m c main_arg4) (V m c main_arg5) (V m c main_arg6) (V m c main_arg7) (V m c main_arg8)
    (fun j => V m c main_v3 (ix2 0 j)) (V m c main_arg10) (fun o => V m c main_v4 (ix2 0 o)) (fun i d => V m c main_v0 (ix4 b i p d))
    (V m c main_v2 (ix3 b p 0)) o

/-- The array of those. -/
def result (c : Dev nD) : Buf (Elt Ideal) ((c : Thread nD τ).loc main_v5) := fun i => outAt m c (i 0) (i 1) (i 2)

/-- An index of a block: its batch coordinate is zero. -/
theorem block_index (y : S1x2048x8.Idx) : y = ix3 0 (y 1) (y 2) := funext fun a => by
  fin_cases a
  · exact Subsingleton.elim (α := Fin 1) _ _
  · rfl
  · rfl

/-- What point `t` writes back is its block of the array. -/
theorem flushed_eq (c : Dev nD) (t : Fin cfg0.N) :
    (dats m 0 c).flushed 12 t = (win0_12.blk t).view.read (Elt Ideal) (result m c) := by
  show (cfg0.win 12).cut (grid0.coords t) ((dats m 0 c).after 12 t) = _
  rw [after0_12]
  refine funext fun (y : S1x2048x8.Idx) => ?_
  obtain ⟨r, o, rfl⟩ : ∃ (r : Fin 2048) (o : Fin 8), y = ix3 0 r o := ⟨y 1, y 2, block_index y⟩
  have e : (win0_12.rect t).emb (ix3 0 r o) = (ix3 (batch t) (pixel t r) o : S2x65536x8.Idx) := by
    refine funext fun a => Fin.ext ?_
    rw [Pipeline.Window.rect_emb_val win0_12, index_12]
    fin_cases a <;> simp [batch, pixel]
  show out0_12 _ _ _ _ _ _ _ _ _ _ _ _ (ix3 0 r o) = result m c ((win0_12.rect t).emb (ix3 0 r o))
  rw [e, Block.out_apply, iblk_1]
  simp only [iblk_0, iblk_2, iblk_3, iblk_4, iblk_5, iblk_6, iblk_7, iblk_8, iblk_9, iblk_10, iblk_11]
  rfl

/-- An index of the result is in point `t`'s block when its batch is the point's and its pixel is in the point's block. -/
theorem mem_blk (t : Fin cfg0.N) (i : S2x65536x8.Idx) (hb : (i 0 : Nat) = t.val / 32) (hp : (i 1 : Nat) / 2048 = t.val % 32) :
    i ∈ ((cfg0.win 12).blk t).view.set := by
  show i ∈ ((View.whole main_v5).slice (win0_12.rect t)).set
  rw [View.set_slice_whole, Rect.mem_set_unit]
  have h2 : (i 2 : Nat) < 8 := (i 2).isLt
  intro a
  show win0_12.index t a * win0_12.size a ≤ (i a : Nat) ∧ (i a : Nat) < win0_12.index t a * win0_12.size a + S1x2048x8.size a
  rw [index_12]
  fin_cases a
  · show t.val / 32 * 1 ≤ (i 0 : Nat) ∧ (i 0 : Nat) < t.val / 32 * 1 + 1
    omega
  · show t.val % 32 * 2048 ≤ (i 1 : Nat) ∧ (i 1 : Nat) < t.val % 32 * 2048 + 2048
    omega
  · show 0 * 8 ≤ (i 2 : Nat) ∧ (i 2 : Nat) < 0 * 8 + 8
    omega

/-- The blocks tile the result. -/
theorem cover (i : S2x65536x8.Idx) : ∃ t : Fin cfg0.N, (cfg0.win 12).flush t = true ∧ i ∈ ((cfg0.win 12).blk t).view.set := by
  have h0 : (i 0 : Nat) < 2 := (i 0).isLt
  have h1 : (i 1 : Nat) < 65536 := (i 1).isLt
  have hN : cfg0.N = 64 := rfl
  refine ⟨⟨(i 0 : Nat) * 32 + (i 1 : Nat) / 2048, by omega⟩, flush0_12 _, mem_blk _ i ?_ ?_⟩
  · show (i 0 : Nat) = ((i 0 : Nat) * 32 + (i 1 : Nat) / 2048) / 32
    omega
  · show (i 1 : Nat) / 2048 = ((i 0 : Nat) * 32 + (i 1 : Nat) / 2048) % 32
    omega

/-- So after the last point the array is `result`. -/
theorem final (c : Dev nD) : (dats m 0 c).arrAt 12 cfg0.N = result m c :=
  (dats m 0 c).arrAt_eq_of_cover 12 (result m c) (fun t _ => flushed_eq m c t) cover

/-! ## The host's line after the region, and the run -/

/-- What the kernel returns at batch `b`, row `y`, column `x` and output `o`, from its arguments. -/
def value (c : Dev nD) (b : Fin 2) (y x : Fin 256) (o : Fin 8) : EReal :=
  pixelOut (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (fun j => m ((c : Thread nD τ).loc main_arg9) (ix1 j)) (m ((c : Thread nD τ).loc main_arg10))
    (fun o => m ((c : Thread nD τ).loc main_arg11) (ix1 o)) (fun i d => m ((c : Thread nD τ).loc main_arg0) (ix5 b i y x d))
    (FloatOps.uitofp (F := Ideal) .f32 (m ((c : Thread nD τ).loc main_arg1) (ix3 b y x))) o

/-- The array at pixel (`y`, `x`), from the kernel's arguments. -/
theorem outAt_flat (c : Dev nD) (b : Fin 2) (y x : Fin 256) (o : Fin 8) : outAt m c b (flat y x) o = value m c b y x o := by
  have e0 : (fun (i : Fin 8) (d : Fin 32) => V m c main_v0 (ix4 b i (flat y x) d))
      = fun i d => m ((c : Thread nD τ).loc main_arg0) (ix5 b i y x d) := funext fun i => funext fun d => V_images m c b i y x d
  have e9 : (fun j : Fin 16 => V m c main_v3 (ix2 0 j)) = fun j => m ((c : Thread nD τ).loc main_arg9) (ix1 j) :=
    funext fun j => V_mixBias m c j
  have e11 : (fun o : Fin 8 => V m c main_v4 (ix2 0 o)) = fun o => m ((c : Thread nD τ).loc main_arg11) (ix1 o) :=
    funext fun o => V_outBias m c o
  unfold outAt value
  rw [e0, e9, e11, V_mask, V_main_arg2, V_main_arg3, V_main_arg4, V_main_arg5, V_main_arg6, V_main_arg7, V_main_arg8, V_main_arg10]

/-- The returned array at an index: the host splits the pixel index in row and column. -/
theorem tail_apply (c : Dev nD) (b : Fin 2) (y x : Fin 256) (o : Fin 8) :
    Pipeline.afterTail₀ cfgs (dats m) 0 (V0 m) [hostOps1] c main_v6 (ix4 b y x o) = value m c b y x o := by
  rw [← outAt_flat]
  have e : Pipeline.withArrays spec0 c (V0 m c) (fun w => (dats m 0 c).arrAt w cfg0.N) (Proc.devRef .tc main_v5) = result m c :=
    (Pipeline.withArrays_arr spec0 (by decide) c (V0 m c) (fun w => (dats m 0 c).arrAt w cfg0.N) 12).trans (final m c)
  unfold Pipeline.afterTail₀
  after_reads_simp
  refine (congrArg (fun f => shapeCast main_v6.ty.shape f shapeCasts_S2x65536x8_S2x256x256x8 (ix4 b y x o)) e).trans ?_
  have r : ∀ f : Vec Ideal S2x65536x8 .f32,
      shapeCast S2x256x256x8 f shapeCasts_S2x65536x8_S2x256x256x8 (ix4 b y x o) = f (ix3 b (flat y x) o) := fun f => by
    unfold flat
    pointwise
  exact r (result m c)

/-- THE RUN: the kernel returns `value` at every index. -/
theorem run : θ_run defs (onTc (τ := τ) (main (F := Ideal))) ⟨m, fun _ => 0, ρ⟩ fun r => ∀ c : Dev nD,
    ∀ b y x o, r.2.mem ((c : Thread nD τ).loc main_v6) (ix4 b y x o) = value m c b y x o :=
  (θ_run defs _ _).mono (fun r h c b y x o =>
    (congrFun ((h c).2 main_v6 (Pipeline.mem_restRefs_of main_v6 (by decide) (by decide))) (ix4 b y x o)).trans
      (tail_apply m c b y x o)) (run_main m ρ)

end Cert.KernelIdeal.Array

end
-- ==== Proof.Reference.lean ====
/-
  What the reference returns, at the extended reals: where the mask is set the plain outputs of Math.lean, elsewhere zero (`out_apply`). Its eight perceptrons have one text
  each but for the slice they read, so that text is written once with the slice as a variable (`head`) and read once.
-/
module

public import proofs.«01_k».proof.Proof.Math
public import proofs.«01_k».proof.Proof.Gen.ReferenceIdeal.Read
public import Idealize.ShloMosaic.Lib.Pointwise

@[expose] public section

set_option maxRecDepth 16384

noncomputable section

open Idealize.ShloMosaic Cert.Math

namespace Cert.ReferenceIdeal.Plain

open Cert.ReferenceIdeal Cert.ReferenceIdeal.Gen Cert.ReferenceIdeal.Read

/-! ## The slices of perceptron `i` -/

theorem slices_x (i : Fin 8) : S2x8x256x256x32.Slices ![0, i.val, 0, 0, 0] S2x1x256x256x32 :=
  ⟨rfl, fun a => by fin_cases a <;> simp <;> omega⟩
theorem slices_w1 (i : Fin 8) : S8x32x128.Slices ![i.val, 0, 0] S1x32x128 := ⟨rfl, fun a => by fin_cases a <;> simp <;> omega⟩
theorem slices_b (i : Fin 8) : S8x128.Slices ![i.val, 0] S1x128 := ⟨rfl, fun a => by fin_cases a <;> simp <;> omega⟩
theorem slices_w2 (i : Fin 8) : S8x128x128.Slices ![i.val, 0, 0] S1x128x128 := ⟨rfl, fun a => by fin_cases a <;> simp <;> omega⟩
theorem slices_w3 (i : Fin 8) : S8x128x1.Slices ![i.val, 0, 0] S1x128x1 := ⟨rfl, fun a => by fin_cases a <;> simp <;> omega⟩
theorem slices_b3 (i : Fin 8) : S8x1.Slices ![i.val, 0] S1x1 := ⟨rfl, fun a => by fin_cases a <;> simp <;> omega⟩

variable (x0 : FVec Ideal S2x8x256x256x32 .f32) (x1 : Vec Ideal S2x256x256 .i1) (x2 : FVec Ideal S8x32x128 .f32)
  (x3 : FVec Ideal S8x128 .f32) (x4 : FVec Ideal S8x128x128 .f32) (x5 : FVec Ideal S8x128 .f32) (x6 : FVec Ideal S8x128x1 .f32)
  (x7 : FVec Ideal S8x1 .f32) (x8 : FVec Ideal S8x16 .f32) (x9 : FVec Ideal S16 .f32) (x10 : FVec Ideal S16x8 .f32)
  (x11 : FVec Ideal S8 .f32)

/-! ## One perceptron -/

/-- A bias row of perceptron `i` at every pixel. -/
def biasRow (x : FVec Ideal S8x128 .f32) (i : Fin 8) : FVec Ideal S2x256x256x128 .f32 :=
  broadcastInDim S2x256x256x128 ![0, 1, 2, 3] bcast_S1x1x1x128_S2x256x256x128_0_1_2_3
    (broadcastInDim S1x1x1x128 ![3] bcast_S128_S1x1x1x128_3
      (shapeCast S128 (extractStridedSlice S1x128 ![i.val, 0] x (slices_b i)) shapeCasts_S1x128_S128))

/-- The first layer of perceptron `i` at every pixel. -/
def first (i : Fin 8) : FVec Ideal S2x256x256x128 .f32 :=
  maximumf
    (addf
      (Host.dotGeneral dot_S2x256x256x32_S32x128_S2x256x256x128_3_0_012_1_n_n none
        (shapeCast S2x256x256x32 (extractStridedSlice S2x1x256x256x32 ![0, i.val, 0, 0, 0] x0 (slices_x i)) shapeCasts_S2x1x256x256x32_S2x256x256x32)
        (shapeCast S32x128 (extractStridedSlice S1x32x128 ![i.val, 0, 0] x2 (slices_w1 i)) shapeCasts_S1x32x128_S32x128))
      (biasRow x3 i))
    (val_main_call0_v0 (F := Ideal))

/-- The second layer of perceptron `i` at every pixel: its hidden values. -/
def second (i : Fin 8) : FVec Ideal S2x256x256x128 .f32 :=
  maximumf
    (addf
      (Host.dotGeneral dot_S2x256x256x128_S128x128_S2x256x256x128_3_0_012_1_n_n none (first x0 x2 x3 i)
        (shapeCast S128x128 (extractStridedSlice S1x128x128 ![i.val, 0, 0] x4 (slices_w2 i)) shapeCasts_S1x128x128_S128x128))
      (biasRow x5 i))
    (val_main_call0_v0 (F := Ideal))

/-- The output of perceptron `i` at every pixel, zero where the mask is not set. -/
def head (i : Fin 8) : FVec Ideal S2x256x256x1 .f32 :=
  select (val_main_v0 (F := Ideal) x1)
    (addf
      (Host.dotGeneral dot_S2x256x256x128_S128x1_S2x256x256x1_3_0_012_1_n_n none (second x0 x2 x3 x4 x5 i)
        (shapeCast S128x1 (extractStridedSlice S1x128x1 ![i.val, 0, 0] x6 (slices_w3 i)) shapeCasts_S1x128x1_S128x1))
      (broadcastInDim S2x256x256x1 ![0, 1, 2, 3] bcast_S1x1x1x1_S2x256x256x1_0_1_2_3
        (broadcastInDim S1x1x1x1 ![3] bcast_S1_S1x1x1x1_3
          (shapeCast S1 (extractStridedSlice S1x1 ![i.val, 0] x7 (slices_b3 i)) shapeCasts_S1x1_S1))))
    (val_main_call2_v1 (F := Ideal))

/-- The eight perceptrons of the program are `head` at 0, …, 7. -/
theorem head_0 : val_main_v29 (F := Ideal) x0 x1 x2 x3 x4 x5 x6 x7 = head x0 x1 x2 x3 x4 x5 x6 x7 0 := rfl
theorem head_1 : val_main_v58 (F := Ideal) x0 x1 x2 x3 x4 x5 x6 x7 = head x0 x1 x2 x3 x4 x5 x6 x7 1 := rfl
theorem head_2 : val_main_v87 (F := Ideal) x0 x1 x2 x3 x4 x5 x6 x7 = head x0 x1 x2 x3 x4 x5 x6 x7 2 := rfl
theorem head_3 : val_main_v116 (F := Ideal) x0 x1 x2 x3 x4 x5 x6 x7 = head x0 x1 x2 x3 x4 x5 x6 x7 3 := rfl
theorem head_4 : val_main_v145 (F := Ideal) x0 x1 x2 x3 x4 x5 x6 x7 = head x0 x1 x2 x3 x4 x5 x6 x7 4 := rfl
theorem head_5 : val_main_v174 (F := Ideal) x0 x1 x2 x3 x4 x5 x6 x7 = head x0 x1 x2 x3 x4 x5 x6 x7 5 := rfl
theorem head_6 : val_main_v203 (F := Ideal) x0 x1 x2 x3 x4 x5 x6 x7 = head x0 x1 x2 x3 x4 x5 x6 x7 6 := rfl
theorem head_7 : val_main_v232 (F := Ideal) x0 x1 x2 x3 x4 x5 x6 x7 = head x0 x1 x2 x3 x4 x5 x6 x7 7 := rfl

/-- The hidden values of perceptron `i` at a pixel, from its parameters and the pixel's inputs. -/
def hiddenAt (b : Fin 2) (y x : Fin 256) (i : Fin 8) (k : Fin 128) : EReal :=
  hiddenOf (fun d h => x2 (ix3 i d h)) (fun h => x3 (ix2 i h)) (fun h k => x4 (ix3 i h k)) (fun k => x5 (ix2 i k))
    (fun d => x0 (ix5 b i y x d)) k

/-- The first layer at a pixel and unit. -/
theorem first_apply (i : Fin 8) (b : Fin 2) (y x : Fin 256) (h : Fin 128) :
    first x0 x2 x3 i (ix4 b y x h)
      = relu (dense (fun d h => x2 (ix3 i d h)) (fun h => x3 (ix2 i h)) (fun d => x0 (ix5 b i y x d)) h) := by
  unfold first relu dense
  pointwise [val_main_call0_v0, val_main_call0_cst, biasRow]

/-- The second layer at a pixel and unit. -/
theorem second_apply (i : Fin 8) (b : Fin 2) (y x : Fin 256) (k : Fin 128) :
    second x0 x2 x3 x4 x5 i (ix4 b y x k) = hiddenAt x0 x2 x3 x4 x5 b y x i k := by
  unfold second hiddenAt hiddenOf
  simp only [← first_apply]
  unfold relu dense
  pointwise [val_main_call0_v0, val_main_call0_cst, biasRow]

/-- A perceptron's output at a pixel where the mask is set. -/
theorem head_apply (i : Fin 8) (b : Fin 2) (y x : Fin 256) (hm : x1 (ix3 b y x) = 1#1) :
    head x0 x1 x2 x3 x4 x5 x6 x7 i (ix4 b y x 0)
      = ∑ k, hiddenAt x0 x2 x3 x4 x5 b y x i k * x6 (ix3 i k 0) + x7 (ix2 i 0) := by
  simp only [← second_apply]
  unfold head
  pointwise [val_main_v0, val_main_call2_v1, val_main_call2_v0, val_main_cst]
  rw [hm]
  rfl

/-! ## The eight together -/

/-- Channel `i` of the concatenated outputs is perceptron `i`. -/
theorem joined_apply (b : Fin 2) (y x : Fin 256) (i : Fin 8) :
    val_main_v233 (F := Ideal) x0 x1 x2 x3 x4 x5 x6 x7 (ix4 b y x i) = head x0 x1 x2 x3 x4 x5 x6 x7 i (ix4 b y x 0) := by
  unfold val_main_v233
  rw [head_0, head_1, head_2, head_3, head_4, head_5, head_6, head_7]
  exact concatenate_ofFn_unit_apply (t := S2x256x256x8) (s₁ := S2x256x256x1) 3 (fun i : Fin 8 => head x0 x1 x2 x3 x4 x5 x6 x7 i) _ rfl rfl (ix4 b y x i) i rfl (ix4 b y x 0)
    fun a ha => by fin_cases a <;> first | rfl | exact absurd rfl ha

/-- THE REFERENCE: the plain output where the mask is set, zero elsewhere. -/
theorem out_apply (b : Fin 2) (y x : Fin 256) (o : Fin 8) :
    val_main_v243 (F := Ideal) x0 x1 x2 x3 x4 x5 x6 x7 x8 x9 x10 x11 (ix4 b y x o)
      = if x1 (ix3 b y x) = 1#1 then
          plainOut (hiddenAt x0 x2 x3 x4 x5 b y x) (fun i k => x6 (ix3 i k 0)) (fun i => x7 (ix2 i 0)) (fun i j => x8 (ix2 i j))
            (fun j => x9 (ix1 j)) (fun j o => x10 (ix2 j o)) (fun o => x11 (ix1 o)) o
        else 0 := by
  unfold val_main_v243 val_main_v242 val_main_v241 val_main_v240 val_main_v239 val_main_v238 val_main_v237 val_main_v236 val_main_v235 val_main_v234
  pointwise [val_main_v0, val_main_call25_v1, val_main_call25_v2, val_main_call25_v0, val_main_cst_7, val_main_call24_v0, val_main_call24_cst, id_eq]
  by_cases hm : x1 (ix3 b y x) = 1#1
  · rw [if_pos hm, hm]
    simp only [joined_apply, head_apply _ _ _ _ _ _ _ _ _ _ _ _ hm]
    rfl
  · rw [if_neg hm]
    exact if_neg hm

end Cert.ReferenceIdeal.Plain

end
-- ==== Proof.Finite.lean ====
/-
  The precondition read back: the program's predicate is one conjunct per array, each the conjunction over the array of "the absolute value is below infinity"; where it is
  true, every element of those arrays is a real number (`real_of_fn`).
-/
module

public import proofs.«01_k».proof.Proof.Math
public import proofs.«01_k».proof.Pre_finite
public import Idealize.ShloMosaic.Lib.ReduceAll
public import Idealize.ShloMosaic.Lib.Pointwise
public import Idealize.ShloMosaic.PureOps.Ideal.Laws

@[expose] public section

noncomputable section

open Idealize.ShloMosaic Cert.Math

namespace Cert.Pre_finite.Decode

open Cert.Pre_finite

/-- An extended real whose absolute value is below infinity is a real number. -/
theorem isReal_of_abs_lt_top {x : EReal} (h : max x (-x) < ⊤) : IsReal x := by
  induction x using EReal.rec with
  | bot => simp at h
  | top => simp at h
  | coe r => exact ⟨r, rfl⟩

/-- The comparison of one element's absolute value with infinity, when it is true. -/
theorem isReal_of_cmp {x : EReal} (h : FloatOps.cmpf (F := Ideal) (φ := .f32) .olt (FloatOps.hostAbsf x) (FloatOps.ofBits .f32 0x7F800000#32) = 1#1) :
    IsReal x := by
  have top : Ideal.ofBits .f32 0x7F800000#32 = ⊤ := by simp [Ideal.ofBits, Ideal.ieee]
  have e : Ideal.cmp .olt (max x (-x)) (Ideal.ofBits .f32 0x7F800000#32) = 1#1 := h
  rw [top] at e
  refine isReal_of_abs_lt_top ?_
  by_contra hn
  simp [Ideal.cmp, hn] at e

variable [Facts]

/-- One array's conjunct: true only when every element is a real number. -/
theorem isReal_of_all {s : Shape} {axes : List (Fin s.rank)} (x : FVec Ideal s .f32) (hb : S_.BroadcastsInDim s (![] : Fin 0 → Fin s.rank))
    (h : s.ReducesTo axes S_) (hu : 0 < S_.numel)
    (e : Host.reduce IntOp.andi (cmpf .olt (Host.absf x) (broadcastInDim s ![] hb (constant S_ .f32 0x7F800000#32))) (constantI S_ 1 1#1) h hu ix0 = 1#1)
    (i : s.Idx) : IsReal (x i) := by
  have : Subsingleton S_.Idx := ⟨fun a b => funext fun k => k.elim0⟩
  exact isReal_of_cmp (Host.reduce_andi_all _ _ h hu ix0 e i)

/-- THE PRECONDITION: where it is true, the images and the weights and biases it names hold real numbers. -/
theorem real_of_fn (x0 : FVec Ideal S2x8x256x256x32 .f32) (x1 : IVec S2x256x256 1) (x2 : FVec Ideal S8x32x128 .f32)
    (x3 : FVec Ideal S8x128 .f32) (x4 : FVec Ideal S8x128x128 .f32) (x5 : FVec Ideal S8x128 .f32) (x6 : FVec Ideal S8x128x1 .f32)
    (x7 : FVec Ideal S8x1 .f32) (x8 : FVec Ideal S8x16 .f32) (x9 : FVec Ideal S16 .f32) (x10 : FVec Ideal S16x8 .f32)
    (x11 : FVec Ideal S8 .f32) (e : fn x0 x1 x2 x3 x4 x5 x6 x7 x8 x9 x10 x11 ix0 = 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x8 i)) := by
  obtain ⟨e, e8⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨isReal_of_all x0 _ _ _ e0, isReal_of_all x2 _ _ _ e2, isReal_of_all x3 _ _ _ e3, isReal_of_all x4 _ _ _ e4,
    isReal_of_all x5 _ _ _ e5, isReal_of_all x6 _ _ _ e6, isReal_of_all x8 _ _ _ e8⟩

end Cert.Pre_finite.Decode

end
-- ==== Proof.Equation.lean ====
/-
  The equation: at real images and weights, what the kernel returns at an index is what the reference returns there (`value_eq`). Where the mask is set its value as a number
  is one, and the fused output is the plain one (Math.lean); elsewhere it is zero, and so is the product.
-/
module

public import proofs.«01_k».proof.Proof.Array
public import proofs.«01_k».proof.Proof.Reference

@[expose] public section

noncomputable section

open Idealize.ShloMosaic Cert.Math

namespace Cert.Equation

open Cert.ReferenceIdeal

/-- A mask bit as a number: one when set, zero when not. -/
theorem uitofp_bit (v : BitVec 1) : FloatOps.uitofp (F := Ideal) .f32 v = if v = 1#1 then (1 : EReal) else 0 := by
  have h : v = 0#1 ∨ v = 1#1 := by revert v; decide
  rcases h with rfl | rfl
  · show (((0#1 : BitVec 1).toNat : ℝ) : EReal) = _
    simp
  · show (((1#1 : BitVec 1).toNat : ℝ) : EReal) = _
    simp

/-- THE EQUATION at one index of the result. -/
theorem value_eq (x0 : FVec Ideal S2x8x256x256x32 .f32) (x1 : Vec Ideal S2x256x256 .i1) (x2 : FVec Ideal S8x32x128 .f32)
    (x3 : FVec Ideal S8x128 .f32) (x4 : FVec Ideal S8x128x128 .f32) (x5 : FVec Ideal S8x128 .f32) (x6 : FVec Ideal S8x128x1 .f32)
    (x7 : FVec Ideal S8x1 .f32) (x8 : FVec Ideal S8x16 .f32) (x9 : FVec Ideal S16 .f32) (x10 : FVec Ideal S16x8 .f32)
    (x11 : FVec Ideal S8 .f32)
    (h0 : ∀ i, IsReal (x0 i)) (h2 : ∀ i, IsReal (x2 i)) (h3 : ∀ i, IsReal (x3 i)) (h4 : ∀ i, IsReal (x4 i)) (h5 : ∀ i, IsReal (x5 i))
    (h6 : ∀ i, IsReal (x6 i)) (h8 : ∀ i, IsReal (x8 i)) (b : Fin 2) (y x : Fin 256) (o : Fin 8) :
    Cert.KernelIdeal.Array.pixelOut x2 x3 x4 x5 x6 x7 x8 (fun j => x9 (ix1 j)) x10 (fun o => x11 (ix1 o)) (fun i d => x0 (ix5 b i y x d))
        (FloatOps.uitofp (F := Ideal) .f32 (x1 (ix3 b y x))) o
      = Read.val_main_v243 (F := Ideal) x0 x1 x2 x3 x4 x5 x6 x7 x8 x9 x10 x11 (ix4 b y x o) := by
  rw [Plain.out_apply, uitofp_bit]
  unfold Cert.KernelIdeal.Array.pixelOut
  by_cases hm : x1 (ix3 b y x) = 1#1
  · rw [if_pos hm, if_pos hm, mul_one]
    exact fusedOut_eq_plainOut _ _ _ _
      (fun i k => IsReal.hiddenOf (fun _ _ => h2 _) (fun _ => h3 _) (fun _ _ => h4 _) (fun _ => h5 _) (fun _ => h0 _) k)
      (fun _ _ => h6 _) (fun _ _ => h8 _) o
  · rw [if_neg hm, if_neg hm, mul_zero]

end Cert.Equation

end
-- ==== Proof.lean ====
/-
  The proof of `Cert.Claim`: the frames of the kernel, of the kernel read at the extended reals and of the reference, and the value claim — at finite images and weights the
  kernel and the reference return the same array. The mathematics is in Proof/: Math.lean (the equation of the two formulas), Block.lean and Array.lean (what the kernel
  returns), Reference.lean (what the reference returns), Finite.lean (the precondition read back), Equation.lean (the two values are equal).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Array
public import proofs.«01_k».proof.Proof.Reference
public import proofs.«01_k».proof.Proof.Finite
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-! The facts the programs and the precondition state: the instances the claims below take. -/

attribute [local instance] Cert.Kernel.Gen.facts Cert.KernelIdeal.Gen.facts Cert.ReferenceIdeal.Gen.facts Cert.Pre_finite.Gen.facts

/-- The kernel runs, leaves its arguments and ends quiet. -/
theorem frame_kernel : Cert.quiescent_Kernel := fun m ρ _ => Cert.Kernel.Gen.frame m ρ

/-- So does the kernel read at the extended reals, -/
theorem frame_kernelIdeal : Cert.quiescent_KernelIdeal := fun m ρ _ => Cert.KernelIdeal.Gen.frame m ρ

/-- under the precondition too, -/
theorem frame_kernelIdeal_finite : Cert.quiescent_KernelIdeal_pre_finite := fun m ρ _ => Cert.KernelIdeal.Gen.frame m ρ

/-- and so does the reference: its host run read at the arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- under the precondition too. -/
theorem frame_reference_finite : Cert.quiescent_ReferenceIdeal_pre_finite := fun m ρ _ => frame_reference m ρ trivial

/-- The kernel read at the extended reals is the kernel's own text: nothing was rewritten. -/
theorem preserves : Cert.preserves_Kernel_KernelIdeal := trivial

/-- What both programs return, as an array: the kernel's value at every index. -/
def common (m : (ℓ : Loc Cert.KernelIdeal.nD Cert.KernelIdeal.τ Cert.KernelIdeal.sig) → Buf (Elt Ideal) ℓ) (c : Dev Cert.KernelIdeal.nD) :
    FVec Ideal Cert.KernelIdeal.S2x256x256x8 .f32 :=
  fun i => Cert.KernelIdeal.Array.value m c (i 0) (i 1) (i 2) (i 3)

/-- An index of the result is its four coordinates. -/
theorem result_index (i : Cert.KernelIdeal.S2x256x256x8.Idx) : i = ix4 (i 0) (i 1) (i 2) (i 3) :=
  funext fun a => by fin_cases a <;> rfl

/-- THE VALUE CLAIM: at finite images and weights the kernel and the reference return the same array, their arguments unchanged. -/
theorem algebraic : Cert.algebraic_KernelIdeal_ReferenceIdeal_pre_finite := by
  intro m ρ m' ρ' hpre hagree
  refine ⟨fun c => common m c, ?_, ?_⟩
  · refine (θ_run Cert.KernelIdeal.defs _ _).mono (fun r h c => ⟨?_, h.2 c⟩)
      (θ_run_and (Cert.KernelIdeal.Array.run m ρ) (Cert.KernelIdeal.Gen.unchanged m ρ))
    funext i
    rw [result_index i]
    exact h.1 c _ _ _ _
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v243_eq (launchContents m' c)).trans ?_
    obtain ⟨a0, a1, a2, a3, a4, a5, a6, a7, a8, a9, a10, a11⟩ := hagree c
    change Cert.ReferenceIdeal.Read.val_main_v243
        (m' ((c.tc : Thread _ _).loc Cert.ReferenceIdeal.main_arg0)) (m' ((c.tc : Thread _ _).loc Cert.ReferenceIdeal.main_arg1))
        (m' ((c.tc : Thread _ _).loc Cert.ReferenceIdeal.main_arg2)) (m' ((c.tc : Thread _ _).loc Cert.ReferenceIdeal.main_arg3))
        (m' ((c.tc : Thread _ _).loc Cert.ReferenceIdeal.main_arg4)) (m' ((c.tc : Thread _ _).loc Cert.ReferenceIdeal.main_arg5))
        (m' ((c.tc : Thread _ _).loc Cert.ReferenceIdeal.main_arg6)) (m' ((c.tc : Thread _ _).loc Cert.ReferenceIdeal.main_arg7))
        (m' ((c.tc : Thread _ _).loc Cert.ReferenceIdeal.main_arg8)) (m' ((c.tc : Thread _ _).loc Cert.ReferenceIdeal.main_arg9))
        (m' ((c.tc : Thread _ _).loc Cert.ReferenceIdeal.main_arg10)) (m' ((c.tc : Thread _ _).loc Cert.ReferenceIdeal.main_arg11)) = common m c
    rw [a0, a1, a2, a3, a4, a5, a6, a7, a8, a9, a10, a11]
    obtain ⟨h0, h2, h3, h4, h5, h6, h8⟩ := Cert.Pre_finite.Decode.real_of_fn _ _ _ _ _ _ _ _ _ _ _ _ (congrFun (hpre c) ix0)
    funext i
    rw [result_index i]
    exact (Cert.Equation.value_eq _ _ _ _ _ _ _ _ _ _ _ _ h0 h2 h3 h4 h5 h6 h8 _ _ _ _).symm

theorem claim : Cert.Claim :=
  ⟨Cert.Kernel.Gen.facts, Cert.KernelIdeal.Gen.facts, Cert.ReferenceIdeal.Gen.facts, Cert.Pre_finite.Gen.facts,
    frame_kernel, frame_kernelIdeal, frame_kernelIdeal_finite, frame_reference, frame_reference_finite, preserves, algebraic⟩

end Cert.Proof

end
